-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x24x20x1024 : Shape := ⟨4, ![2, 24, 20, 1024]⟩
abbrev S1 : Shape := ⟨1, ![1]⟩
abbrev S1x3x3x1024 : Shape := ⟨4, ![1, 3, 3, 1024]⟩
abbrev S1024 : Shape := ⟨1, ![1024]⟩
abbrev S2x24x20x128 : Shape := ⟨4, ![2, 24, 20, 128]⟩
abbrev S1x3x3x128 : Shape := ⟨4, ![1, 3, 3, 128]⟩
abbrev S128 : Shape := ⟨1, ![128]⟩
abbrev S28x24x128 : Shape := ⟨3, ![28, 24, 128]⟩
abbrev S3x3x128 : Shape := ⟨3, ![3, 3, 128]⟩
abbrev S1x1x128 : Shape := ⟨3, ![1, 1, 128]⟩
abbrev S1x24x20x128 : Shape := ⟨4, ![1, 24, 20, 128]⟩
abbrev S24x20x128 : Shape := ⟨3, ![24, 20, 128]⟩

abbrev nBuf : Space → Nat
  | .hbm => 8
  | .vmem => 13
  | .smem => 2
  | _ => 0

abbrev bufTy : (tb : Table) → Fin (tcTables nBuf tb) → BufTy
  | .hbm, ⟨0, _⟩ => ⟨S2x24x20x1024, .i8⟩
  | .hbm, ⟨1, _⟩ => ⟨S1, .i32⟩
  | .hbm, ⟨2, _⟩ => ⟨S1x3x3x1024, .i8⟩
  | .hbm, ⟨3, _⟩ => ⟨S1024, .i32⟩
  | .hbm, ⟨4, _⟩ => ⟨S1024, .i32⟩
  | .hbm, ⟨5, _⟩ => ⟨S1024, .i32⟩
  | .hbm, ⟨6, _⟩ => ⟨S1, .i32⟩
  | .hbm, ⟨7, _⟩ => ⟨S2x24x20x1024, .i8⟩
  | .local _ .vmem, ⟨0, _⟩ => ⟨S2x24x20x128, .i8⟩
  | .local _ .vmem, ⟨1, _⟩ => ⟨S2x24x20x128, .i8⟩
  | .local _ .vmem, ⟨2, _⟩ => ⟨S1x3x3x128, .i8⟩
  | .local _ .vmem, ⟨3, _⟩ => ⟨S1x3x3x128, .i8⟩
  | .local _ .vmem, ⟨4, _⟩ => ⟨S128, .i32⟩
  | .local _ .vmem, ⟨5, _⟩ => ⟨S128, .i32⟩
  | .local _ .vmem, ⟨6, _⟩ => ⟨S128, .i32⟩
  | .local _ .vmem, ⟨7, _⟩ => ⟨S128, .i32⟩
  | .local _ .vmem, ⟨8, _⟩ => ⟨S128, .i32⟩
  | .local _ .vmem, ⟨9, _⟩ => ⟨S128, .i32⟩
  | .local _ .vmem, ⟨10, _⟩ => ⟨S2x24x20x128, .i8⟩
  | .local _ .vmem, ⟨11, _⟩ => ⟨S2x24x20x128, .i8⟩
  | .local _ .vmem, ⟨12, _⟩ => ⟨S28x24x128, .f32⟩
  | .local _ .smem, ⟨0, _⟩ => ⟨S1, .i32⟩
  | .local _ .smem, ⟨1, _⟩ => ⟨S1, .i32⟩
  | _, _ => ⟨S2x24x20x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x24x20x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x3x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x24x20x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x24x20x1024 : Shape := ⟨4, ![2, 24, 20, 1024]⟩
abbrev S1 : Shape := ⟨1, ![1]⟩
abbrev S1x3x3x1024 : Shape := ⟨4, ![1, 3, 3, 1024]⟩
abbrev S1024 : Shape := ⟨1, ![1024]⟩
abbrev S_ : Shape := ⟨0, ![]⟩
abbrev S2x28x24x1024 : Shape := ⟨4, ![2, 28, 24, 1024]⟩
abbrev S3x3x1024 : Shape := ⟨3, ![3, 3, 1024]⟩
abbrev S1x1x1024 : Shape := ⟨3, ![1, 1, 1024]⟩
abbrev S1x1x1x1024 : Shape := ⟨4, ![1, 1, 1, 1024]⟩

abbrev nBuf : Space → Nat
  | .hbm => 180
  | .vmem => 0
  | .smem => 0
  | _ => 0

abbrev hbmTy0_0 (i : Nat) : BufTy := match i % 128 with
  | 0 => ⟨S2x24x20x1024, .i8⟩
  | 1 => ⟨S1, .i32⟩
  | 2 => ⟨S1x3x3x1024, .i8⟩
  | 3 => ⟨S1024, .i32⟩
  | 4 => ⟨S1024, .i32⟩
  | 5 => ⟨S1024, .i32⟩
  | 6 => ⟨S1, .i32⟩
  | 7 => ⟨S_, .i32⟩
  | 8 => ⟨S2x24x20x1024, .i32⟩
  | 9 => ⟨S2x24x20x1024, .f32⟩
  | 10 => ⟨S_, .f32⟩
  | 11 => ⟨S2x24x20x1024, .f32⟩
  | 12 => ⟨S2x24x20x1024, .f32⟩
  | 13 => ⟨S_, .i32⟩
  | 14 => ⟨S_, .f32⟩
  | 15 => ⟨S2x28x24x1024, .f32⟩
  | 16 => ⟨S3x3x1024, .i8⟩
  | 17 => ⟨S3x3x1024, .i32⟩
  | 18 => ⟨S3x3x1024, .f32⟩
  | 19 => ⟨S2x24x20x1024, .f32⟩
  | 20 => ⟨S1x1x1024, .f32⟩
  | 21 => ⟨S1024, .f32⟩
  | 22 => ⟨S1x1x1x1024, .f32⟩
  | 23 => ⟨S2x24x20x1024, .f32⟩
  | 24 => ⟨S2x24x20x1024, .f32⟩
  | 25 => ⟨S2x24x20x1024, .f32⟩
  | 26 => ⟨S1x1x1024, .f32⟩
  | 27 => ⟨S1024, .f32⟩
  | 28 => ⟨S1x1x1x1024, .f32⟩
  | 29 => ⟨S2x24x20x1024, .f32⟩
  | 30 => ⟨S2x24x20x1024, .f32⟩
  | 31 => ⟨S2x24x20x1024, .f32⟩
  | 32 => ⟨S2x24x20x1024, .f32⟩
  | 33 => ⟨S1x1x1024, .f32⟩
  | 34 => ⟨S1024, .f32⟩
  | 35 => ⟨S1x1x1x1024, .f32⟩
  | 36 => ⟨S2x24x20x1024, .f32⟩
  | 37 => ⟨S2x24x20x1024, .f32⟩
  | 38 => ⟨S2x24x20x1024, .f32⟩
  | 39 => ⟨S2x24x20x1024, .f32⟩
  | 40 => ⟨S1x1x1024, .f32⟩
  | 41 => ⟨S1024, .f32⟩
  | 42 => ⟨S1x1x1x1024, .f32⟩
  | 43 => ⟨S2x24x20x1024, .f32⟩
  | 44 => ⟨S2x24x20x1024, .f32⟩
  | 45 => ⟨S2x24x20x1024, .f32⟩
  | 46 => ⟨S2x24x20x1024, .f32⟩
  | 47 => ⟨S1x1x1024, .f32⟩
  | 48 => ⟨S1024, .f32⟩
  | 49 => ⟨S1x1x1x1024, .f32⟩
  | 50 => ⟨S2x24x20x1024, .f32⟩
  | 51 => ⟨S2x24x20x1024, .f32⟩
  | 52 => ⟨S2x24x20x1024, .f32⟩
  | 53 => ⟨S2x24x20x1024, .f32⟩
  | 54 => ⟨S1x1x1024, .f32⟩
  | 55 => ⟨S1024, .f32⟩
  | 56 => ⟨S1x1x1x1024, .f32⟩
  | 57 => ⟨S2x24x20x1024, .f32⟩
  | 58 => ⟨S2x24x20x1024, .f32⟩
  | 59 => ⟨S2x24x20x1024, .f32⟩
  | 60 => ⟨S2x24x20x1024, .f32⟩
  | 61 => ⟨S1x1x1024, .f32⟩
  | 62 => ⟨S1024, .f32⟩
  | 63 => ⟨S1x1x1x1024, .f32⟩
  | 64 => ⟨S2x24x20x1024, .f32⟩
  | 65 => ⟨S2x24x20x1024, .f32⟩
  | 66 => ⟨S2x24x20x1024, .f32⟩
  | 67 => ⟨S2x24x20x1024, .f32⟩
  | 68 => ⟨S1x1x1024, .f32⟩
  | 69 => ⟨S1024, .f32⟩
  | 70 => ⟨S1x1x1x1024, .f32⟩
  | 71 => ⟨S2x24x20x1024, .f32⟩
  | 72 => ⟨S2x24x20x1024, .f32⟩
  | 73 => ⟨S2x24x20x1024, .f32⟩
  | 74 => ⟨S2x24x20x1024, .f32⟩
  | 75 => ⟨S1x1x1024, .f32⟩
  | 76 => ⟨S1024, .f32⟩
  | 77 => ⟨S1x1x1x1024, .f32⟩
  | 78 => ⟨S2x24x20x1024, .f32⟩
  | 79 => ⟨S2x24x20x1024, .f32⟩
  | 80 => ⟨S2x24x20x1024, .f32⟩
  | 81 => ⟨S2x24x20x1024, .i32⟩
  | 82 => ⟨S1x1x1x1024, .i32⟩
  | 83 => ⟨S2x24x20x1024, .i32⟩
  | 84 => ⟨S2x24x20x1024, .i32⟩
  | 85 => ⟨S_, .i32⟩
  | 86 => ⟨S_, .i32⟩
  | 87 => ⟨S2x24x20x1024, .i32⟩
  | 88 => ⟨S2x24x20x1024, .i32⟩
  | 89 => ⟨S_, .i32⟩
  | 90 => ⟨S2x24x20x1024, .i32⟩
  | 91 => ⟨S2x24x20x1024, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i32⟩
  | 98 => ⟨S1x1x1x1024, .i32⟩
  | 99 => ⟨S2x24x20x1024, .i32⟩
  | 100 => ⟨S2x24x20x1024, .i32⟩
  | 101 => ⟨S1x1x1x1024, .i32⟩
  | 102 => ⟨S2x24x20x1024, .i32⟩
  | 103 => ⟨S2x24x20x1024, .i32⟩
  | 104 => ⟨S1x1x1x1024, .i32⟩
  | 105 => ⟨S2x24x20x1024, .i32⟩
  | 106 => ⟨S2x24x20x1024, .i32⟩
  | 107 => ⟨S2x24x20x1024, .i32⟩
  | 108 => ⟨S1024, .i32⟩
  | 109 => ⟨S1x1x1x1024, .i32⟩
  | 110 => ⟨S2x24x20x1024, .i32⟩
  | 111 => ⟨S2x24x20x1024, .i32⟩
  | 112 => ⟨S_, .i32⟩
  | 113 => ⟨S2x24x20x1024, .i32⟩
  | 114 => ⟨S2x24x20x1024, .i32⟩
  | 115 => ⟨S_, .i32⟩
  | 116 => ⟨S2x24x20x1024, .i32⟩
  | 117 => ⟨S2x24x20x1024, .i32⟩
  | 118 => ⟨S2x24x20x1024, .i32⟩
  | 119 => ⟨S_, .i32⟩
  | 120 => ⟨S2x24x20x1024, .i32⟩
  | 121 => ⟨S2x24x20x1024, .i32⟩
  | 122 => ⟨S2x24x20x1024, .i32⟩
  | 123 => ⟨S2x24x20x1024, .i32⟩
  | 124 => ⟨S_, .i32⟩
  | 125 => ⟨S2x24x20x1024, .i32⟩
  | 126 => ⟨S2x24x20x1024, .i32⟩
  | 127 => ⟨S_, .i32⟩
  | _ => ⟨S2x24x20x1024, .i8⟩

abbrev hbmTy0_1 (i : Nat) : BufTy := match i % 128 with
  | 0 => ⟨S2x24x20x1024, .i32⟩
  | 1 => ⟨S2x24x20x1024, .i32⟩
  | 2 => ⟨S2x24x20x1024, .i32⟩
  | 3 => ⟨S_, .i32⟩
  | 4 => ⟨S2x24x20x1024, .i32⟩
  | 5 => ⟨S2x24x20x1024, .i32⟩
  | 6 => ⟨S2x24x20x1024, .i32⟩
  | 7 => ⟨S_, .i32⟩
  | 8 => ⟨S2x24x20x1024, .i32⟩
  | 9 => ⟨S2x24x20x1024, .i32⟩
  | 10 => ⟨S_, .i32⟩
  | 11 => ⟨S2x24x20x1024, .i32⟩
  | 12 => ⟨S2x24x20x1024, .i32⟩
  | 13 => ⟨S2x24x20x1024, .i32⟩
  | 14 => ⟨S1024, .i32⟩
  | 15 => ⟨S_, .i32⟩
  | 16 => ⟨S1024, .i32⟩
  | 17 => ⟨S1024, .i32⟩
  | 18 => ⟨S_, .i32⟩
  | 19 => ⟨S1024, .i32⟩
  | 20 => ⟨S1024, .i32⟩
  | 21 => ⟨S1x1x1x1024, .i32⟩
  | 22 => ⟨S2x24x20x1024, .i32⟩
  | 23 => ⟨S2x24x20x1024, .i32⟩
  | 24 => ⟨S_, .i32⟩
  | 25 => ⟨S1024, .i32⟩
  | 26 => ⟨S1024, .i32⟩
  | 27 => ⟨S_, .i32⟩
  | 28 => ⟨S2x24x20x1024, .i32⟩
  | 29 => ⟨S2x24x20x1024, .i1⟩
  | 30 => ⟨S2x24x20x1024, .i32⟩
  | 31 => ⟨S1x1x1x1024, .i32⟩
  | 32 => ⟨S2x24x20x1024, .i32⟩
  | 33 => ⟨S2x24x20x1024, .i32⟩
  | 34 => ⟨S1x1x1x1024, .i32⟩
  | 35 => ⟨S2x24x20x1024, .i32⟩
  | 36 => ⟨S2x24x20x1024, .i32⟩
  | 37 => ⟨S2x24x20x1024, .i1⟩
  | 38 => ⟨S2x24x20x1024, .i32⟩
  | 39 => ⟨S2x24x20x1024, .i32⟩
  | 40 => ⟨S2x24x20x1024, .i32⟩
  | 41 => ⟨S2x24x20x1024, .i32⟩
  | 42 => ⟨S_, .i32⟩
  | 43 => ⟨S_, .i32⟩
  | 44 => ⟨S_, .i32⟩
  | 45 => ⟨S2x24x20x1024, .i32⟩
  | 46 => ⟨S2x24x20x1024, .i32⟩
  | 47 => ⟨S_, .i32⟩
  | 48 => ⟨S2x24x20x1024, .i32⟩
  | 49 => ⟨S2x24x20x1024, .i32⟩
  | 50 => ⟨S2x24x20x1024, .i8⟩
  | 51 => ⟨S2x24x20x1024, .i8⟩
  | _ => ⟨S2x24x20x1024, .i8⟩

abbrev hbmTy (i : Nat) : BufTy := match i / 128 with
  | 0 => hbmTy0_0 i
  | 1 => hbmTy0_1 i
  | _ => ⟨S2x24x20x1024, .i8⟩

abbrev bufTy : (tb : Table) → Fin (tcTables nBuf tb) → BufTy
  | .hbm, ⟨i, _⟩ => hbmTy i
  | _, _ => ⟨S2x24x20x1024, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_c_0 : Ref sig .tc := ⟨.hbm, 86, rfl⟩
abbrev main_v77 : Ref sig .tc := ⟨.hbm, 87, rfl⟩
abbrev main_v78 : Ref sig .tc := ⟨.hbm, 88, rfl⟩
abbrev main_c_1 : Ref sig .tc := ⟨.hbm, 89, rfl⟩
abbrev main_v79 : Ref sig .tc := ⟨.hbm, 90, rfl⟩
abbrev main_v80 : Ref sig .tc := ⟨.hbm, 91, rfl⟩
abbrev main_c_2 : Ref sig .tc := ⟨.hbm, 92, rfl⟩
abbrev main_v81 : Ref sig .tc := ⟨.hbm, 93, rfl⟩
abbrev main_v82 : Ref sig .tc := ⟨.hbm, 94, rfl⟩
abbrev main_c_3 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_c_4 : Ref sig .tc := ⟨.hbm, 112, rfl⟩
abbrev main_v99 : Ref sig .tc := ⟨.hbm, 113, rfl⟩
abbrev main_v100 : Ref sig .tc := ⟨.hbm, 114, rfl⟩
abbrev main_c_5 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_c_6 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_c_7 : Ref sig .tc := ⟨.hbm, 124, rfl⟩
abbrev main_v108 : Ref sig .tc := ⟨.hbm, 125, rfl⟩
abbrev main_v109 : Ref sig .tc := ⟨.hbm, 126, rfl⟩
abbrev main_c_8 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_c_9 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_c_10 : Ref sig .tc := ⟨.hbm, 135, rfl⟩
abbrev main_v116 : Ref sig .tc := ⟨.hbm, 136, rfl⟩
abbrev main_v117 : Ref sig .tc := ⟨.hbm, 137, rfl⟩
abbrev main_c_11 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_c_12 : Ref sig .tc := ⟨.hbm, 143, rfl⟩
abbrev main_v122 : Ref sig .tc := ⟨.hbm, 144, rfl⟩
abbrev main_v123 : Ref sig .tc := ⟨.hbm, 145, rfl⟩
abbrev main_c_13 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_c_14 : Ref sig .tc := ⟨.hbm, 152, rfl⟩
abbrev main_v129 : Ref sig .tc := ⟨.hbm, 153, rfl⟩
abbrev main_v130 : Ref sig .tc := ⟨.hbm, 154, rfl⟩
abbrev main_c_15 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_c_16 : Ref sig .tc := ⟨.hbm, 170, rfl⟩
abbrev main_c_17 : Ref sig .tc := ⟨.hbm, 171, rfl⟩
abbrev main_call1_v0 : Ref sig .tc := ⟨.hbm, 172, rfl⟩
abbrev main_call1_v1 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩

abbrev nD : Nat := 1
abbrev τ : Topo := Topo.v7x

variable {F : FTy → Type} [FloatOps F]
-- ==== Proof.Spec.lean ====
/- Hand-written, untrusted: THE CONVOLUTION'S RESULT AT ONE ELEMENT, as a function of the numbers it is made of. Kernel and
   reference are each read to this one function (`elem`); they differ only in how a number becomes a float, so those floats
   are its arguments. Nothing here mentions a program. -/
module

public import Idealize.ShloMosaic.Lib.PointwiseCore

@[expose] public section

noncomputable section

open Idealize.ShloMosaic

namespace Cert.Spec

variable {F : FTy → Type} [FloatOps F]

/-- Row `a`, column `b` of one channel's image `x` with a border of two around it: `x − z` inside, `p` on the border. -/
def padded (z p : F .f32) (x : Fin 24 → Fin 20 → F .f32) (a b : ℕ) : F .f32 :=
  if h : (2 ≤ a ∧ a < 26) ∧ (2 ≤ b ∧ b < 22) then FloatOps.subf (x ⟨a - 2, by omega⟩ ⟨b - 2, by omega⟩) z else p

/-- The nine taps at distance two, weighted and added in row-major order. -/
def conv (z p : F .f32) (x : Fin 24 → Fin 20 → F .f32) (w : Fin 3 → Fin 3 → F .f32) (h v : ℕ) : F .f32 :=
  let tap (i j : Fin 3) : F .f32 := FloatOps.mulf (padded z p x (2 * i.val + h) (2 * j.val + v)) (w i j)
  FloatOps.addf (FloatOps.addf (FloatOps.addf (FloatOps.addf (FloatOps.addf (FloatOps.addf (FloatOps.addf
    (FloatOps.addf (tap 0 0) (tap 0 1)) (tap 0 2)) (tap 1 0)) (tap 1 1)) (tap 1 2)) (tap 2 0)) (tap 2 1)) (tap 2 2)

/-- The upper half of a word, its sign kept. -/
def hi (a : BitVec 32) : BitVec 32 := IntOp.shrsi .vector a 16#32

/-- The lower half of a word. -/
def lo (a : BitVec 32) : BitVec 32 := IntOp.andi a 65535#32

/-- The product of two words, doubled and rounded to its upper word, out of the four products of their halves. -/
def mulHigh (a m : BitVec 32) : BitVec 32 :=
  IntOp.addi
    (IntOp.muli 2#32 (IntOp.addi (IntOp.addi (IntOp.muli (hi a) (hi m)) (hi (IntOp.muli (lo a) (hi m)))) (hi (IntOp.muli (hi a) (lo m)))))
    (IntOp.shrsi .vector
      (IntOp.addi
        (IntOp.addi (IntOp.addi (lo (IntOp.muli (lo a) (hi m))) (lo (IntOp.muli (hi a) (lo m))))
          (IntOp.shrui .vector (IntOp.muli (lo a) (lo m)) 16#32))
        16384#32)
      15#32)

/-- The low `e` bits of a word, as a mask. -/
def mask (e : BitVec 32) : BitVec 32 := IntOp.subi (IntOp.shli .vector 1#32 e) 1#32

/-- `q` divided by `2 ^ e`, rounded to nearest, halves away from zero. -/
def roundShift (q e : BitVec 32) : BitVec 32 :=
  IntOp.addi (IntOp.shrsi .vector q e)
    (BitVec.setWidth 32 (IntOp.cmpi .sgt (IntOp.andi q (mask e))
      (IntOp.addi (IntOp.shrsi .vector (mask e) 1#32) (BitVec.setWidth 32 (IntOp.cmpi .slt q 0#32)))))

/-- A word brought to the scale of the result, moved by its zero point and kept within a signed byte. -/
def requant (acc m s zo : BitVec 32) : BitVec 8 :=
  BitVec.setWidth 8 (IntOp.minsi 127#32 (IntOp.maxsi 4294967168#32
    (IntOp.addi (roundShift (mulHigh acc m) (IntOp.subi 0#32 s)) zo)))

/-- THE RESULT AT ONE ELEMENT: row `h`, column `v` of a channel's image `x`, with the channel's nine weights `w`, bias `b`,
    multiplier `m` and shift `s`. -/
def elem (z p : F .f32) (x : Fin 24 → Fin 20 → F .f32) (w : Fin 3 → Fin 3 → F .f32) (b m s zo : BitVec 32) (h v : ℕ) : BitVec 8 :=
  requant (IntOp.addi (FloatOps.fptosi 32 (conv z p x w h v)) b) m s zo

/-- THE WHOLE RESULT: every channel's image against that channel's parameters. `f` takes a byte to a
    float, `z` is the zero point of the image as a float and `p` the border. -/
def layer (f : BitVec 8 → F .f32) (z p : F .f32) (x : IVec ⟨4, ![2, 24, 20, 1024]⟩ 8) (w : IVec ⟨4, ![1, 3, 3, 1024]⟩ 8)
    (b m s : IVec ⟨1, ![1024]⟩ 32) (zo : IVec ⟨1, ![1]⟩ 32) : IVec ⟨4, ![2, 24, 20, 1024]⟩ 8 := fun i =>
  let n : Fin 2 := i 0
  let k : Fin 1024 := i 3
  elem z p (fun r q => f (x (ix4 n r q k))) (fun r q => f (w (ix4 0 r q k)))
    (b (ix1 k)) (m (ix1 k)) (s (ix1 k)) (zo (ix1 0)) (i 1).val (i 2).val

/-- The layer at an element named by its coordinates. -/
theorem layer_apply (f : BitVec 8 → F .f32) (z p : F .f32) (x : IVec ⟨4, ![2, 24, 20, 1024]⟩ 8) (w : IVec ⟨4, ![1, 3, 3, 1024]⟩ 8)
    (b m s : IVec ⟨1, ![1024]⟩ 32) (zo : IVec ⟨1, ![1]⟩ 32) (n : Fin 2) (h : Fin 24) (v : Fin 20) (k : Fin 1024) :
    layer f z p x w b m s zo (ix4 n h v k) =
      elem z p (fun r q => f (x (ix4 n r q k))) (fun r q => f (w (ix4 0 r q k)))
        (b (ix1 k)) (m (ix1 k)) (s (ix1 k)) (zo (ix1 0)) h.val v.val := rfl

end Cert.Spec
-- ==== Proof.Body.lean ====
/- Hand-written, untrusted: WHAT ONE GRID POINT LEAVES in its block of the result, at an element. The scratch buffer holds
   one image between two rows and columns of zeros; a load from it at a tap's offset is the padded image there
   (`load_image`: the second image is stored over the first, at the same place). The stored bytes are then the
   requantized sum of the nine taps (`first_apply`, `second_apply`), which is `Spec.elem` of the point's input blocks. -/
module

public import proofs.«01_k».proof.Proof.Spec
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.RefValue

open Cert.KernelIdeal Cert.KernelIdeal.Gen

variable {F : FTy → Type} [FloatOps F]

/-- A channel of an image block, as floats. -/
abbrev image (x : IVec S1x24x20x128 8) (l : Fin 128) (h : Fin 24) (v : Fin 20) : F .f32 := FloatOps.sitofp .f32 (x (ix4 0 h v l))

/-- The zero around an image. -/
abbrev zero : F .f32 := Scalar.ofBits .f32 0x00000000#32

/-! ## The scratch buffer, read back -/

/-- The place of the image in the scratch buffer. -/
abbrev inner : Rect S28x24x128 := Rect.unit ![2, 2, 0] ![24, 20, 128] inb_S28x24x128_S24x20x128_2_2_0

/-- Its elements are those at rows 2 to 25 and columns 2 to 21. -/
theorem mem_inner (a : Fin 28) (b : Fin 24) (l : Fin 128) :
    ix3 a b l ∈ inner.set ↔ (2 ≤ a.val ∧ a.val < 26) ∧ (2 ≤ b.val ∧ b.val < 22) := by
  rw [Rect.mem_set_unit]
  refine Fin.forall_fin_succ.trans (and_congr Iff.rfl (Fin.forall_fin_succ.trans ?_))
  have hl := l.isLt
  exact ⟨fun h => h.1, fun h => ⟨h, fun d => by fin_cases d; exact ⟨Nat.zero_le _, by simpa [ix3] using hl⟩⟩⟩

/-- A store of an image there. -/
abbrev stored (y : FVec F S24x20x128 .f32) : View.Piece (Elt F) S28x24x128 .f32 := ⟨inner, y⟩

/-- Zero off the image's place. -/
def ZeroOff (L : List (View.Piece (Elt F) S28x24x128 .f32)) : Prop :=
  ∀ (a : Fin 28) (b : Fin 24) (l : Fin 128), ¬((2 ≤ a.val ∧ a.val < 26) ∧ (2 ≤ b.val ∧ b.val < 22)) → View.canon L (ix3 a b l) = zero (F := F)

/-- The fill makes the scratch buffer zero. -/
theorem zeroOff_fill : ZeroOff (F := F) [⟨Rect.unit ![0, 0, 0] ![28, 24, 128] inb_S28x24x128_S28x24x128_0_0_0, k0_pay3⟩] := by
  intro a b l _
  refine (congrFun (View.canon_cons_unit_lit (Val := Elt F) (e := .f32) (S := S28x24x128) inb_S28x24x128_S28x24x128_0_0_0 (k0_pay3 (F := F)) [] (by decide)) _).trans ?_
  pointwise [k0_pay3]

/-- A store of an image leaves zero around it. -/
theorem zeroOff_image (y : FVec F S24x20x128 .f32) (L : List (View.Piece (Elt F) S28x24x128 .f32)) (hL : ZeroOff L) :
    ZeroOff (F := F) (stored y :: L) := by
  intro a b l h
  exact (View.canon_cons_of_not_mem (stored y) L (y := ix3 a b l) (mt (mem_inner a b l).mp h)).trans (hL a b l h)

/-- The scratch buffer after a store of an image is the padded image. -/
theorem canon_image (zi : BitVec 32) (x : IVec S1x24x20x128 8) (y : FVec F S24x20x128 .f32)
    (hy : ∀ h v l, y (ix3 h v l) = FloatOps.subf (image x l h v) (Scalar.sitofp .f32 zi)) (L : List (View.Piece (Elt F) S28x24x128 .f32))
    (hL : ZeroOff L) (a : Fin 28) (b : Fin 24) (l : Fin 128) :
    View.canon (stored y :: L) (ix3 a b l) = Spec.padded (Scalar.sitofp .f32 zi) zero (image x l) a b := by
  unfold Spec.padded
  split
  · rename_i h
    rw [← hy]
    have he : inner.emb (ix3 (⟨a.val - 2, by omega⟩ : Fin 24) (⟨b.val - 2, by omega⟩ : Fin 20) l) = ix3 a b l := by
      funext d; apply Fin.ext
      match d with
      | ⟨0, _⟩ => show 2 + 1 * (a.val - 2) = a.val; omega
      | ⟨1, _⟩ => show 2 + 1 * (b.val - 2) = b.val; omega
      | ⟨2, _⟩ => show 0 + 1 * l.val = l.val; omega
    rw [← he]
    exact View.canon_cons_emb inner y L _
  · rename_i h
    exact zeroOff_image y L hL a b l h

/-- A load of an image-sized piece of it, at offsets `o` and `p`, reads the padded image there. -/
theorem load_image (zi : BitVec 32) (x : IVec S1x24x20x128 8) (y : FVec F S24x20x128 .f32)
    (hy : ∀ h v l, y (ix3 h v l) = FloatOps.subf (image x l h v) (Scalar.sitofp .f32 zi)) (L : List (View.Piece (Elt F) S28x24x128 .f32))
    (hL : ZeroOff L) (o p : ℕ) (inb : ∀ a, (![o, p, 0] : Fin 3 → ℕ) a + (![24, 20, 128] : Fin 3 → ℕ) a ≤ S28x24x128.size a)
    (h : Fin 24) (v : Fin 20) (l : Fin 128) :
    (View.whole cc0_scratch0).readCov (Val := Elt F) (stored y :: L) (Rect.unit (s := S28x24x128) ![o, p, 0] ![24, 20, 128] inb).toLoadRect (ix3 h v l)
      = Spec.padded (Scalar.sitofp .f32 zi) zero (image x l) (o + h) (p + v) := by
  have h0 : o + 24 ≤ 28 := inb 0
  have h1 : p + 20 ≤ 24 := inb 1
  rw [View.readCov_eq_canon']
  have he : (Rect.unit (s := S28x24x128) ![o, p, 0] ![24, 20, 128] inb).toLoadRect.idx (ix3 h v l)
      = ix3 (⟨o + h.val, by omega⟩ : Fin 28) (⟨p + v.val, by omega⟩ : Fin 24) l := by
    funext d; apply Fin.ext
    match d with
    | ⟨0, _⟩ => show o + 1 * h.val = o + h.val; omega
    | ⟨1, _⟩ => show p + 1 * v.val = p + v.val; omega
    | ⟨2, _⟩ => show 0 + 1 * l.val = l.val; omega
  exact (congrArg _ he).trans (canon_image zi x y hy L hL _ _ l)

/-! ## The payloads, at an element -/

theorem pay8_apply (zi : BitVec 32) (x : IVec S1x24x20x128 8) (h : Fin 24) (v : Fin 20) (l : Fin 128) :
    k0_pay8 (F := F) zi x (ix3 h v l) = FloatOps.subf (image x l h v) (Scalar.sitofp .f32 zi) := by
  pointwise [k0_pay8, k0_pay2]

theorem pay16_apply (zi : BitVec 32) (x : IVec S1x24x20x128 8) (h : Fin 24) (v : Fin 20) (l : Fin 128) :
    k0_pay16 (F := F) (k0_pay2 zi) x (ix3 h v l) = FloatOps.subf (image x l h v) (Scalar.sitofp .f32 zi) := by
  pointwise [k0_pay16, k0_pay2]

/-- The stored bytes of the first image, from the nine loads `t₀` … `t₈`. -/
theorem first_apply (zo : BitVec 32) (w : IVec S1x3x3x128 8) (b mu sh : IVec S128 32) (t0 t1 t2 t3 t4 t5 t6 t7 t8 : FVec F S24x20x128 .f32)
    (z p : F .f32) (x : Fin 24 → Fin 20 → F .f32) (a : Fin 1) (h : Fin 24) (v : Fin 20) (l : Fin 128)
    (h0 : t0 (ix3 h v l) = Spec.padded z p x (0 + h) (0 + v)) (h1 : t1 (ix3 h v l) = Spec.padded z p x (0 + h) (2 + v))
    (h2 : t2 (ix3 h v l) = Spec.padded z p x (0 + h) (4 + v)) (h3 : t3 (ix3 h v l) = Spec.padded z p x (2 + h) (0 + v))
    (h4 : t4 (ix3 h v l) = Spec.padded z p x (2 + h) (2 + v)) (h5 : t5 (ix3 h v l) = Spec.padded z p x (2 + h) (4 + v))
    (h6 : t6 (ix3 h v l) = Spec.padded z p x (4 + h) (0 + v)) (h7 : t7 (ix3 h v l) = Spec.padded z p x (4 + h) (2 + v))
    (h8 : t8 (ix3 h v l) = Spec.padded z p x (4 + h) (4 + v)) :
    k0_pay15 (F := F) zo (k0_pay11 (k0_pay6 (F := F) mu) (k0_pay10 (k0_pay4 w) (k0_pay5 (F := F) b) (k0_pay9 w t0 t1) t2 t3 t4 t5 t6 t7 t8))
        (k0_pay12 (k0_pay7 (F := F) sh)) (k0_pay13 (k0_pay7 (F := F) sh)) (k0_pay14 (k0_pay7 (F := F) sh)) (ix4 a h v l)
      = Spec.elem z p x (fun i j => FloatOps.sitofp .f32 (w (ix4 0 i j l))) (b (ix1 l)) (mu (ix1 l)) (sh (ix1 l)) zo h v := by
  have hc : k0_pay10 (k0_pay4 w) (k0_pay5 (F := F) b) (k0_pay9 w t0 t1) t2 t3 t4 t5 t6 t7 t8 (ix3 h v l)
      = IntOp.addi (FloatOps.fptosi 32 (Spec.conv z p x (fun i j => FloatOps.sitofp .f32 (w (ix4 0 i j l))) h v)) (b (ix1 l)) := by
    pointwise [k0_pay10, k0_pay9, k0_pay4, k0_pay5]
    rw [h0, h1, h2, h3, h4, h5, h6, h7, h8]
    rfl
  unfold Spec.elem
  rw [← hc]
  generalize k0_pay10 (k0_pay4 w) (k0_pay5 (F := F) b) (k0_pay9 w t0 t1) t2 t3 t4 t5 t6 t7 t8 = acc
  pointwise [k0_pay15, k0_pay11, k0_pay6, k0_pay7, k0_pay12, k0_pay13, k0_pay14]
  rfl

/-- The stored bytes of the second image, from the nine loads `t₀` … `t₈`. -/
theorem second_apply (zo : BitVec 32) (w : IVec S1x3x3x128 8) (b mu sh : IVec S128 32) (t0 t1 t2 t3 t4 t5 t6 t7 t8 : FVec F S24x20x128 .f32)
    (z p : F .f32) (x : Fin 24 → Fin 20 → F .f32) (a : Fin 1) (h : Fin 24) (v : Fin 20) (l : Fin 128)
    (h0 : t0 (ix3 h v l) = Spec.padded z p x (0 + h) (0 + v)) (h1 : t1 (ix3 h v l) = Spec.padded z p x (0 + h) (2 + v))
    (h2 : t2 (ix3 h v l) = Spec.padded z p x (0 + h) (4 + v)) (h3 : t3 (ix3 h v l) = Spec.padded z p x (2 + h) (0 + v))
    (h4 : t4 (ix3 h v l) = Spec.padded z p x (2 + h) (2 + v)) (h5 : t5 (ix3 h v l) = Spec.padded z p x (2 + h) (4 + v))
    (h6 : t6 (ix3 h v l) = Spec.padded z p x (4 + h) (0 + v)) (h7 : t7 (ix3 h v l) = Spec.padded z p x (4 + h) (2 + v))
    (h8 : t8 (ix3 h v l) = Spec.padded z p x (4 + h) (4 + v)) :
    k0_pay1 (F := F) zo (k0_pay19 (k0_pay5 (F := F) b) (k0_pay6 (F := F) mu) (k0_pay18 (k0_pay4 w) (k0_pay17 (k0_pay4 w) t0) t1 t2 t3 t4 t5 t6 t7 t8))
        (k0_pay20 (k0_pay7 (F := F) sh)) (k0_pay21 (k0_pay7 (F := F) sh)) (ix4 a h v l)
      = Spec.elem z p x (fun i j => FloatOps.sitofp .f32 (w (ix4 0 i j l))) (b (ix1 l)) (mu (ix1 l)) (sh (ix1 l)) zo h v := by
  have hc : k0_pay18 (k0_pay4 w) (k0_pay17 (k0_pay4 w) t0) t1 t2 t3 t4 t5 t6 t7 t8 (ix3 h v l)
      = Spec.conv z p x (fun i j => FloatOps.sitofp .f32 (w (ix4 0 i j l))) h v := by
    pointwise [k0_pay18, k0_pay17, k0_pay4]
    rw [h0, h1, h2, h3, h4, h5, h6, h7, h8]
    rfl
  unfold Spec.elem
  rw [← hc]
  generalize k0_pay18 (k0_pay4 w) (k0_pay17 (k0_pay4 w) t0) t1 t2 t3 t4 t5 t6 t7 t8 = acc
  pointwise [k0_pay1, k0_pay19, k0_pay5, k0_pay6, k0_pay7, k0_pay20, k0_pay21]
  rfl

/-! ## The block -/

/-- A load of a one-word block reads its word. -/
theorem ld_word (X : IVec S1 32) (inb : ∀ a, (![0] : Fin 1 → ℕ) a + (![1] : Fin 1 → ℕ) a ≤ S1.size a)
    (j : (Rect.unit (s := S1) ![0] ![1] inb).shape.Idx) :
    View.ld (Val := Elt F) (e' := .i32) X (Rect.unit (s := S1) ![0] ![1] inb) j = X (ix1 0) :=
  congrArg X (funext fun d => by fin_cases d; exact Subsingleton.elim (α := Fin 1) _ _)

/-- The place of image `n` in a block of two. -/
theorem emb_image (n : Fin 2) (inb : ∀ a, (![n.val, 0, 0, 0] : Fin 4 → ℕ) a + (![1, 24, 20, 128] : Fin 4 → ℕ) a ≤ S2x24x20x128.size a)
    (h : Fin 24) (v : Fin 20) (l : Fin 128) :
    (Rect.unit (s := S2x24x20x128) ![n.val, 0, 0, 0] ![1, 24, 20, 128] inb).emb (ix4 (0 : Fin 1) h v l) = ix4 n h v l := by
  funext d; apply Fin.ext
  match d with
  | ⟨0, _⟩ => show n.val + 1 * 0 = n.val; omega
  | ⟨1, _⟩ => show 0 + 1 * h.val = h.val; omega
  | ⟨2, _⟩ => show 0 + 1 * v.val = v.val; omega
  | ⟨3, _⟩ => show 0 + 1 * l.val = l.val; omega

/-- A load of image `n`, as floats. -/
theorem image_ld (X : IVec S2x24x20x128 8) (n : Fin 2)
    (inb : ∀ a, (![n.val, 0, 0, 0] : Fin 4 → ℕ) a + (![1, 24, 20, 128] : Fin 4 → ℕ) a ≤ S2x24x20x128.size a) (l : Fin 128) :
    image (F := F) (View.ld (Val := Elt F) (e' := .i8) X (Rect.unit (s := S2x24x20x128) ![n.val, 0, 0, 0] ![1, 24, 20, 128] inb)) l
      = fun r q => FloatOps.sitofp .f32 (X (ix4 n r q l)) := by
  funext r q
  exact congrArg (fun k => FloatOps.sitofp .f32 (X k)) (emb_image n inb r q l)

variable (m : (ℓ : Loc nD τ sig) → Buf (Elt F) ℓ) (c : Dev nD)

/-- THE BLOCK OF THE RESULT at point `t`, at image `n`, row `h`, column `v` and lane `l`. -/
theorem out_apply (t : Fin cfg0.N) (n : Fin 2) (h : Fin 24) (v : Fin 20) (l : Fin 128) :
    outsAt0 m c t (ix4 n h v l)
      = Spec.elem (F := F) (Scalar.sitofp .f32 (iblk m c 0 t (ix1 0))) zero
          (fun r q => FloatOps.sitofp .f32 (iblk m c 2 t (ix4 n r q l)))
          (fun i j => FloatOps.sitofp .f32 (iblk m c 3 t (ix4 0 i j l)))
          (iblk m c 4 t (ix1 l)) (iblk m c 5 t (ix1 l)) (iblk m c 6 t (ix1 l)) (iblk m c 1 t (ix1 0)) h v := by
  unfold outsAt0
  frame_open
  simp (disch := decide) only [↓ View.readCov_skip]
  frame_out
  obtain rfl | rfl : n = 0 ∨ n = 1 := by omega
  · refine (View.canon_cons_of_not_mem _ _ ?_).trans ?_
    · show ix4 (0 : Fin 2) h v l ∉ (Rect.unit (s := S2x24x20x128) ![1, 0, 0, 0] ![1, 24, 20, 128] inb_S2x24x20x128_S1x24x20x128_1_0_0_0).set
      rw [Rect.mem_set_unit]
      exact fun hall => absurd (show 1 ≤ 0 from (hall 0).1) (by decide)
    refine (congrArg _ (emb_image 0 inb_S2x24x20x128_S1x24x20x128_0_0_0_0 h v l).symm).trans ?_
    refine (View.canon_cons_emb (Rect.unit (s := S2x24x20x128) ![0, 0, 0, 0] ![1, 24, 20, 128] inb_S2x24x20x128_S1x24x20x128_0_0_0_0) _ [] _).trans ?_
    refine (first_apply _ _ _ _ _ _ _ _ _ _ _ _ _ _ _ _ _ (0 : Fin 1) h v l
      (load_image _ _ _ (pay8_apply _ _) _ zeroOff_fill 0 0 _ h v l) (load_image _ _ _ (pay8_apply _ _) _ zeroOff_fill 0 2 _ h v l)
      (load_image _ _ _ (pay8_apply _ _) _ zeroOff_fill 0 4 _ h v l) (load_image _ _ _ (pay8_apply _ _) _ zeroOff_fill 2 0 _ h v l)
      (load_image _ _ _ (pay8_apply _ _) _ zeroOff_fill 2 2 _ h v l) (load_image _ _ _ (pay8_apply _ _) _ zeroOff_fill 2 4 _ h v l)
      (load_image _ _ _ (pay8_apply _ _) _ zeroOff_fill 4 0 _ h v l) (load_image _ _ _ (pay8_apply _ _) _ zeroOff_fill 4 2 _ h v l)
      (load_image _ _ _ (pay8_apply _ _) _ zeroOff_fill 4 4 _ h v l)).trans ?_
    rw [ld_word, ld_word]
    exact congrArg (fun x => Spec.elem _ _ x _ _ _ _ _ _ _) (image_ld (iblk m c 2 t) 0 inb_S2x24x20x128_S1x24x20x128_0_0_0_0 l)
  · refine (congrArg _ (emb_image 1 inb_S2x24x20x128_S1x24x20x128_1_0_0_0 h v l).symm).trans ?_
    refine (View.canon_cons_emb (Rect.unit (s := S2x24x20x128) ![1, 0, 0, 0] ![1, 24, 20, 128] inb_S2x24x20x128_S1x24x20x128_1_0_0_0) _ _ _).trans ?_
    refine (second_apply _ _ _ _ _ _ _ _ _ _ _ _ _ _ _ _ _ (0 : Fin 1) h v l
      (load_image _ _ _ (pay16_apply _ _) _ (zeroOff_image _ _ zeroOff_fill) 0 0 _ h v l) (load_image _ _ _ (pay16_apply _ _) _ (zeroOff_image _ _ zeroOff_fill) 0 2 _ h v l)
      (load_image _ _ _ (pay16_apply _ _) _ (zeroOff_image _ _ zeroOff_fill) 0 4 _ h v l) (load_image _ _ _ (pay16_apply _ _) _ (zeroOff_image _ _ zeroOff_fill) 2 0 _ h v l)
      (load_image _ _ _ (pay16_apply _ _) _ (zeroOff_image _ _ zeroOff_fill) 2 2 _ h v l) (load_image _ _ _ (pay16_apply _ _) _ (zeroOff_image _ _ zeroOff_fill) 2 4 _ h v l)
      (load_image _ _ _ (pay16_apply _ _) _ (zeroOff_image _ _ zeroOff_fill) 4 0 _ h v l) (load_image _ _ _ (pay16_apply _ _) _ (zeroOff_image _ _ zeroOff_fill) 4 2 _ h v l)
      (load_image _ _ _ (pay16_apply _ _) _ (zeroOff_image _ _ zeroOff_fill) 4 4 _ h v l)).trans ?_
    rw [ld_word, ld_word]
    exact congrArg (fun x => Spec.elem _ _ x _ _ _ _ _ _ _) (image_ld (iblk m c 2 t) 1 inb_S2x24x20x128_S1x24x20x128_1_0_0_0 l)

end Cert.KernelIdeal.RefValue
-- ==== Proof.Array.lean ====
/- Hand-written, untrusted: THE KERNEL'S RESULT ARRAY. Grid point `t` works on channels `128 t` to `128 t + 127`: its input
   blocks are those channels of the arguments, and its block of the result is those channels of `Spec.layer`. The eight
   blocks cover the array. -/
module

public import proofs.«01_k».proof.Proof.Body

@[expose] public section

set_option maxRecDepth 16384

noncomputable section

open Idealize.ShloMosaic Idealize.ShloMosaic.TcCoe Idealize.SL.Sem

namespace Cert.KernelIdeal.RefValue

open Cert.KernelIdeal Cert.KernelIdeal.Gen

variable {F : FTy → Type} [FloatOps F]
variable (m : (ℓ : Loc nD τ sig) → Buf (Elt F) ℓ) (c : Dev nD)

/-- The result, of the launch contents of the arguments. -/
abbrev result : Buf (Elt F) ((c : Thread nD τ).loc main_v0) :=
  Spec.layer (F := F) (FloatOps.sitofp .f32) (Scalar.sitofp .f32 ((m ((c : Thread nD τ).loc main_arg1) : IVec S1 32) (ix1 0))) zero
    (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6))

theorem idx0 : ∀ t : Fin cfg0.N, win0_0.index t = ![0] := (by decide +kernel : ∀ t : Fin grid0.N, _)
theorem idx1 : ∀ t : Fin cfg0.N, win0_1.index t = ![0] := (by decide +kernel : ∀ t : Fin grid0.N, _)
theorem idx2 : ∀ t : Fin cfg0.N, win0_2.index t = ![0, 0, 0, t.val] := (by decide +kernel : ∀ t : Fin grid0.N, _)
theorem idx3 : ∀ t : Fin cfg0.N, win0_3.index t = ![0, 0, 0, t.val] := (by decide +kernel : ∀ t : Fin grid0.N, _)
theorem idx4 : ∀ t : Fin cfg0.N, win0_4.index t = ![t.val] := (by decide +kernel : ∀ t : Fin grid0.N, _)
theorem idx5 : ∀ t : Fin cfg0.N, win0_5.index t = ![t.val] := (by decide +kernel : ∀ t : Fin grid0.N, _)
theorem idx6 : ∀ t : Fin cfg0.N, win0_6.index t = ![t.val] := (by decide +kernel : ∀ t : Fin grid0.N, _)
theorem idx7 : ∀ t : Fin cfg0.N, win0_7.index t = ![0, 0, 0, t.val] := (by decide +kernel : ∀ t : Fin grid0.N, _)

/-- The channel that lane `l` of point `t` works on. -/
def channel (t : Fin cfg0.N) (l : Fin 128) : Fin 1024 := ⟨t.val * 128 + l.val, by have := t.isLt; have : cfg0.N = 8 := N_0; omega⟩

/-! ## The input blocks, at an element -/

theorem iblk0 (t : Fin cfg0.N) : (iblk m c 0 t : IVec S1 32) (ix1 0) = (m ((c : Thread nD τ).loc main_arg1) : IVec S1 32) (ix1 0) := by
  show V m c main_arg1 (((cfg0.win 0).blk t).view.emb (ix1 0)) = _
  rw [show V m c main_arg1 = m ((c : Thread nD τ).loc main_arg1) from V_main_arg1 m c]
  exact congrArg (m ((c : Thread nD τ).loc main_arg1) : IVec S1 32) (funext fun d => by fin_cases d; exact Subsingleton.elim (α := Fin 1) _ _)

theorem iblk1 (t : Fin cfg0.N) : (iblk m c 1 t : IVec S1 32) (ix1 0) = (m ((c : Thread nD τ).loc main_arg6) : IVec S1 32) (ix1 0) := by
  show V m c main_arg6 (((cfg0.win 1).blk t).view.emb (ix1 0)) = _
  rw [show V m c main_arg6 = m ((c : Thread nD τ).loc main_arg6) from V_main_arg6 m c]
  exact congrArg (m ((c : Thread nD τ).loc main_arg6) : IVec S1 32) (funext fun d => by fin_cases d; exact Subsingleton.elim (α := Fin 1) _ _)

theorem iblk2 (t : Fin cfg0.N) (n : Fin 2) (h : Fin 24) (v : Fin 20) (l : Fin 128) :
    (iblk m c 2 t : IVec S2x24x20x128 8) (ix4 n h v l) = (m ((c : Thread nD τ).loc main_arg0) : IVec S2x24x20x1024 8) (ix4 n h v (channel t l)) := by
  show V m c main_arg0 (((cfg0.win 2).blk t).view.emb (ix4 n h v l)) = _
  rw [show V m c main_arg0 = m ((c : Thread nD τ).loc main_arg0) from V_main_arg0 m c]
  refine congrArg (m ((c : Thread nD τ).loc main_arg0) : IVec S2x24x20x1024 8) (funext fun d => Fin.ext ?_)
  have hi := idx2 t
  match d with
  | ⟨0, _⟩ => show win0_2.index t (0 : Fin 4) * 2 + 1 * n.val = n.val; rw [hi]; show 0 * 2 + 1 * n.val = n.val; omega
  | ⟨1, _⟩ => show win0_2.index t (1 : Fin 4) * 24 + 1 * h.val = h.val; rw [hi]; show 0 * 24 + 1 * h.val = h.val; omega
  | ⟨2, _⟩ => show win0_2.index t (2 : Fin 4) * 20 + 1 * v.val = v.val; rw [hi]; show 0 * 20 + 1 * v.val = v.val; omega
  | ⟨3, _⟩ => show win0_2.index t (3 : Fin 4) * 128 + 1 * l.val = t.val * 128 + l.val; rw [hi]; show t.val * 128 + 1 * l.val = _; omega

theorem iblk3 (t : Fin cfg0.N) (i j : Fin 3) (l : Fin 128) :
    (iblk m c 3 t : IVec S1x3x3x128 8) (ix4 0 i j l) = (m ((c : Thread nD τ).loc main_arg2) : IVec S1x3x3x1024 8) (ix4 0 i j (channel t l)) := by
  show V m c main_arg2 (((cfg0.win 3).blk t).view.emb (ix4 0 i j l)) = _
  rw [show V m c main_arg2 = m ((c : Thread nD τ).loc main_arg2) from V_main_arg2 m c]
  refine congrArg (m ((c : Thread nD τ).loc main_arg2) : IVec S1x3x3x1024 8) (funext fun d => Fin.ext ?_)
  have hi := idx3 t
  match d with
  | ⟨0, _⟩ => show win0_3.index t (0 : Fin 4) * 1 + 1 * 0 = 0; rw [hi]; rfl
  | ⟨1, _⟩ => show win0_3.index t (1 : Fin 4) * 3 + 1 * i.val = i.val; rw [hi]; show 0 * 3 + 1 * i.val = i.val; omega
  | ⟨2, _⟩ => show win0_3.index t (2 : Fin 4) * 3 + 1 * j.val = j.val; rw [hi]; show 0 * 3 + 1 * j.val = j.val; omega
  | ⟨3, _⟩ => show win0_3.index t (3 : Fin 4) * 128 + 1 * l.val = t.val * 128 + l.val; rw [hi]; show t.val * 128 + 1 * l.val = _; omega

theorem iblk4 (t : Fin cfg0.N) (l : Fin 128) :
    (iblk m c 4 t : IVec S128 32) (ix1 l) = (m ((c : Thread nD τ).loc main_arg3) : IVec S1024 32) (ix1 (channel t l)) := by
  show V m c main_arg3 (((cfg0.win 4).blk t).view.emb (ix1 l)) = _
  rw [show V m c main_arg3 = m ((c : Thread nD τ).loc main_arg3) from V_main_arg3 m c]
  refine congrArg (m ((c : Thread nD τ).loc main_arg3) : IVec S1024 32) (funext fun d => Fin.ext ?_)
  match d with
  | ⟨0, _⟩ => show win0_4.index t (0 : Fin 1) * 128 + 1 * l.val = t.val * 128 + l.val; rw [idx4 t]; show t.val * 128 + 1 * l.val = _; omega

theorem iblk5 (t : Fin cfg0.N) (l : Fin 128) :
    (iblk m c 5 t : IVec S128 32) (ix1 l) = (m ((c : Thread nD τ).loc main_arg4) : IVec S1024 32) (ix1 (channel t l)) := by
  show V m c main_arg4 (((cfg0.win 5).blk t).view.emb (ix1 l)) = _
  rw [show V m c main_arg4 = m ((c : Thread nD τ).loc main_arg4) from V_main_arg4 m c]
  refine congrArg (m ((c : Thread nD τ).loc main_arg4) : IVec S1024 32) (funext fun d => Fin.ext ?_)
  match d with
  | ⟨0, _⟩ => show win0_5.index t (0 : Fin 1) * 128 + 1 * l.val = t.val * 128 + l.val; rw [idx5 t]; show t.val * 128 + 1 * l.val = _; omega

theorem iblk6 (t : Fin cfg0.N) (l : Fin 128) :
    (iblk m c 6 t : IVec S128 32) (ix1 l) = (m ((c : Thread nD τ).loc main_arg5) : IVec S1024 32) (ix1 (channel t l)) := by
  show V m c main_arg5 (((cfg0.win 6).blk t).view.emb (ix1 l)) = _
  rw [show V m c main_arg5 = m ((c : Thread nD τ).loc main_arg5) from V_main_arg5 m c]
  refine congrArg (m ((c : Thread nD τ).loc main_arg5) : IVec S1024 32) (funext fun d => Fin.ext ?_)
  match d with
  | ⟨0, _⟩ => show win0_6.index t (0 : Fin 1) * 128 + 1 * l.val = t.val * 128 + l.val; rw [idx6 t]; show t.val * 128 + 1 * l.val = _; omega

/-! ## The result array -/

/-- The place of the block of point `t` in the result array. -/
theorem emb7 (t : Fin cfg0.N) (n : Fin 2) (h : Fin 24) (v : Fin 20) (l : Fin 128) :
    (win0_7.blk t).view.emb (ix4 n h v l) = ix4 n h v (channel t l) := by
  funext d; apply Fin.ext
  have hi := idx7 t
  match d with
  | ⟨0, _⟩ => show win0_7.index t (0 : Fin 4) * 2 + 1 * n.val = n.val; rw [hi]; show 0 * 2 + 1 * n.val = n.val; omega
  | ⟨1, _⟩ => show win0_7.index t (1 : Fin 4) * 24 + 1 * h.val = h.val; rw [hi]; show 0 * 24 + 1 * h.val = h.val; omega
  | ⟨2, _⟩ => show win0_7.index t (2 : Fin 4) * 20 + 1 * v.val = v.val; rw [hi]; show 0 * 20 + 1 * v.val = v.val; omega
  | ⟨3, _⟩ => show win0_7.index t (3 : Fin 4) * 128 + 1 * l.val = t.val * 128 + l.val; rw [hi]; show t.val * 128 + 1 * l.val = _; omega

/-- A point's block is that point's channels of the result. -/
theorem block (t : Fin cfg0.N) (y : S2x24x20x128.Idx) : outsAt0 m c t y = result m c ((win0_7.blk t).view.emb y) := by
  obtain ⟨n, h, v, l, rfl⟩ : ∃ (n : Fin 2) (h : Fin 24) (v : Fin 20) (l : Fin 128), y = ix4 n h v l := ⟨y 0, y 1, y 2, y 3, eq_ix4 y⟩
  rw [emb7, out_apply, iblk0, iblk1, iblk4, iblk5, iblk6, result, Spec.layer_apply]
  simp only [iblk2, iblk3]

/-- The array after the run is the result. -/
theorem final : (dats m 0 c).arrAt 7 cfg0.N = result m c := by
  refine (dats m 0 c).arrAt_eq_of_covers 7 _ (by decide +kernel) fun t hf y => ?_
  blk_simp
  rw [after0_7]
  exact block m c t y

end Cert.KernelIdeal.RefValue
-- ==== Proof.Ref.lean ====
/- Hand-written, untrusted: THE REFERENCE'S RESULT AT ONE ELEMENT, which is the layer of `Proof.Spec`. -/
module

public import proofs.«01_k».proof.Proof.Spec
public import proofs.«01_k».proof.Proof.Gen.ReferenceIdeal.Run
public import Idealize.ShloMosaic.Lib.KernelVsHost

@[expose] public section

noncomputable section

open Idealize.ShloMosaic Idealize.SL.Sem

namespace Cert.ReferenceIdeal.RefValue

open Cert.ReferenceIdeal Cert.ReferenceIdeal.Value

variable {F : FTy → Type} [FloatOps F] (V0 : Valuation τ sig (Elt F))

/-- The reference takes a byte to a float by way of a word. -/
def toFloat (b : BitVec 8) : F .f32 := FloatOps.sitofp .f32 (BitVec.signExtend 32 b)

/-- The reference's border: the word zero as a float. -/
def border : F .f32 := FloatOps.sitofp .f32 0#32

/-- The zero point of the image, as a float. -/
def zeroPoint : F .f32 := FloatOps.sitofp .f32 (V0 (Proc.devRef .tc main_arg1) (ix1 0))

theorem padded_apply (n : Fin 2) (a : Fin 28) (b : Fin 24) (k : Fin 1024) :
    (res_main_v6 V0 : FVec F S2x28x24x1024 .f32) (ix4 n a b k) =
      Spec.padded (zeroPoint V0) border (fun r q => toFloat (V0 (Proc.devRef .tc main_arg0) (ix4 n r q k))) a.val b.val := by
  pointwise [res_main_v6]
  unfold Spec.padded
  have ha := a.isLt
  have hb := b.isLt
  by_cases h : (2 ≤ a.val ∧ a.val < 26) ∧ (2 ≤ b.val ∧ b.val < 22)
  · rw [dif_pos h, dif_pos]
    · rfl
    · intro d
      match d with
      | ⟨0, _⟩ => exact ⟨Nat.zero_le _, Nat.mod_one _, by show (n.val - 0) / (0 + 1) < 2; omega⟩
      | ⟨1, _⟩ => exact ⟨h.1.1, Nat.mod_one _, by show (a.val - 2) / (0 + 1) < 24; omega⟩
      | ⟨2, _⟩ => exact ⟨h.2.1, Nat.mod_one _, by show (b.val - 2) / (0 + 1) < 20; omega⟩
      | ⟨3, _⟩ => exact ⟨Nat.zero_le _, Nat.mod_one _, by show (k.val - 0) / (0 + 1) < 1024; omega⟩
  · rw [dif_neg h, dif_neg]
    · rfl
    · intro g
      have ga : 2 ≤ a.val ∧ _ ∧ (a.val - 2) / (0 + 1) < 24 := g (1 : Fin 4)
      have gb : 2 ≤ b.val ∧ _ ∧ (b.val - 2) / (0 + 1) < 20 := g (2 : Fin 4)
      omega

theorem weight_apply (i j : Fin 3) (k : Fin 1024) :
    (res_main_v9 V0 : FVec F S3x3x1024 .f32) (ix3 i j k) = toFloat (V0 (Proc.devRef .tc main_arg2) (ix4 0 i j k)) := by
  pointwise [res_main_v9]
  rfl

/-- The sum of the weighted taps, rounded to a word, and the bias. -/
theorem acc_apply (n : Fin 2) (h : Fin 24) (v : Fin 20) (k : Fin 1024) :
    (res_main_v75 V0 : IVec S2x24x20x1024 32) (ix4 n h v k) =
      IntOp.addi (FloatOps.fptosi 32 (Spec.conv (zeroPoint V0) border
        (fun r q => toFloat (V0 (Proc.devRef .tc main_arg0) (ix4 n r q k))) (fun i j => toFloat (V0 (Proc.devRef .tc main_arg2) (ix4 0 i j k)))
        h.val v.val)) (V0 (Proc.devRef .tc main_arg3) (ix1 k)) := by
  pointwise [res_main_v75]
  simp only [padded_apply, weight_apply, Spec.conv, Fin.val_zero, Fin.val_one, Fin.val_two, Nat.mul_zero, Nat.mul_one, Nat.zero_add, Nat.reduceMul]

/-! ## From the sum to the byte: every operation reads its operands at the same element -/

theorem hi_apply (n : Fin 2) (h : Fin 24) (v : Fin 20) (k : Fin 1024) :
    (res_main_v78 V0 : IVec S2x24x20x1024 32) (ix4 n h v k) = Spec.hi ((res_main_v75 V0 : IVec S2x24x20x1024 32) (ix4 n h v k)) := by
  pointwise [res_main_v78]
  exact shrsi_unit _ _ _ _

theorem lo_apply (n : Fin 2) (h : Fin 24) (v : Fin 20) (k : Fin 1024) :
    (res_main_v80 V0 : IVec S2x24x20x1024 32) (ix4 n h v k) = Spec.lo ((res_main_v75 V0 : IVec S2x24x20x1024 32) (ix4 n h v k)) := by
  pointwise [res_main_v80]
  rfl

theorem q_apply (n : Fin 2) (h : Fin 24) (v : Fin 20) (k : Fin 1024) :
    (res_main_v120 V0 : IVec S2x24x20x1024 32) (ix4 n h v k) =
      Spec.mulHigh ((res_main_v75 V0 : IVec S2x24x20x1024 32) (ix4 n h v k)) (V0 (Proc.devRef .tc main_arg4) (ix1 k)) := by
  pointwise [res_main_v120, res_main_v90, res_main_v93, res_main_v82, res_main_v84, id]
  simp only [hi_apply, lo_apply, shrsi_unit .host .vector, shrui_unit .host .vector]
  rfl

/-- The reference's result, of the contents of its arguments. -/
def result : IVec S2x24x20x1024 8 :=
  Spec.layer toFloat (zeroPoint V0) border (V0 (Proc.devRef .tc main_arg0)) (V0 (Proc.devRef .tc main_arg2)) (V0 (Proc.devRef .tc main_arg3))
    (V0 (Proc.devRef .tc main_arg4)) (V0 (Proc.devRef .tc main_arg5)) (V0 (Proc.devRef .tc main_arg6))

/-- The result at one element, in terms of the doubled upper product `res_main_v120`. -/
theorem result_apply (n : Fin 2) (h : Fin 24) (v : Fin 20) (k : Fin 1024) :
    result V0 (ix4 n h v k) = BitVec.setWidth 8 (IntOp.minsi 127#32 (IntOp.maxsi 4294967168#32
      (IntOp.addi (Spec.roundShift ((res_main_v120 V0 : IVec S2x24x20x1024 32) (ix4 n h v k)) (IntOp.subi 0#32 (V0 (Proc.devRef .tc main_arg5) (ix1 k))))
        (V0 (Proc.devRef .tc main_arg6) (ix1 0))))) := by
  rw [q_apply, acc_apply]
  rfl

/-- THE REFERENCE'S RUN: it ends with `result` in its result array and its arguments as they were. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono ?_ (run m ρ)
  intro r h c
  refine ⟨(h c).1.trans (funext fun (i : S2x24x20x1024.Idx) => ?_), (h c).2⟩
  obtain ⟨n, a, b, k, rfl⟩ : ∃ (n : Fin 2) (a : Fin 24) (b : Fin 20) (k : Fin 1024), i = ix4 n a b k := ⟨i 0, i 1, i 2, i 3, eq_ix4 i⟩
  rw [result_apply]
  pointwise [res_main_v121, res_main_v125, id]
  simp only [shrsi_unit .host .vector, shli_unit .host .vector]
  rfl

end Cert.ReferenceIdeal.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Ref
public import Idealize.ShloMosaic.Adequacy
public import Idealize.ShloMosaic.Init

@[expose] public section

noncomputable section

namespace Cert.Proof

open Idealize.ShloMosaic Idealize.SL.Sem Cert.Kernel

/-- A byte taken to a float by way of a word is the byte taken to a float. -/
theorem toFloat_eq : (Cert.ReferenceIdeal.RefValue.toFloat : BitVec 8 → Ideal .f32) = FloatOps.sitofp .f32 := by
  funext b
  show (((BitVec.signExtend 32 b).toInt : ℝ) : EReal) = ((b.toInt : ℝ) : EReal)
  rw [BitVec.toInt_signExtend_of_le (by decide)]

/-- The word zero as a float is the float zero. -/
theorem border_eq : (Cert.ReferenceIdeal.RefValue.border : Ideal .f32) = Cert.KernelIdeal.RefValue.zero := by
  exact (sitofp_zero : (Scalar.sitofp .f32 0#32 : Ideal .f32) = 0).trans Ideal.ofBits_zero_f32.symm

theorem frame_kernelIdeal : Cert.quiescent_KernelIdeal := fun m ρ _ => Cert.KernelIdeal.Gen.frame m ρ

theorem frame_kernel : Cert.quiescent_Kernel := fun m ρ _ => Cert.Kernel.Gen.frame m ρ

theorem frame_reference : Cert.quiescent_ReferenceIdeal := fun m ρ _ =>
  (θ_run _ _ _).mono (fun r h => ⟨fun c => (h c).2, Idealize.ShloMosaic.sem_eq_zero_of_no_sems (by decide) r.2⟩)
    (Cert.ReferenceIdeal.RefValue.run_result m ρ)

theorem algebraic : Cert.algebraic_KernelIdeal_ReferenceIdeal := by
  intro m ρ m' ρ' _ hagree
  refine ⟨fun c => Cert.KernelIdeal.RefValue.result m c, ?_, ?_⟩
  · refine (θ_run _ _ _).mono ?_ (Cert.KernelIdeal.Value.run_blocks m ρ)
    intro r h c
    exact ⟨(h c).1.trans (Cert.KernelIdeal.RefValue.final m c), (h c).2⟩
  · refine (θ_run _ _ _).mono ?_ (Cert.ReferenceIdeal.RefValue.run_result m' ρ')
    intro r h c
    refine ⟨(h c).1.trans ?_, (h c).2⟩
    obtain ⟨h0, h1, h2, h3, h4, h5, h6⟩ := hagree c
    have e0 : StableHlo.launchContents m' c (Proc.devRef .tc Cert.ReferenceIdeal.main_arg0) = _ := h0
    have e1 : StableHlo.launchContents m' c (Proc.devRef .tc Cert.ReferenceIdeal.main_arg1) = _ := h1
    have e2 : StableHlo.launchContents m' c (Proc.devRef .tc Cert.ReferenceIdeal.main_arg2) = _ := h2
    have e3 : StableHlo.launchContents m' c (Proc.devRef .tc Cert.ReferenceIdeal.main_arg3) = _ := h3
    have e4 : StableHlo.launchContents m' c (Proc.devRef .tc Cert.ReferenceIdeal.main_arg4) = _ := h4
    have e5 : StableHlo.launchContents m' c (Proc.devRef .tc Cert.ReferenceIdeal.main_arg5) = _ := h5
    have e6 : StableHlo.launchContents m' c (Proc.devRef .tc Cert.ReferenceIdeal.main_arg6) = _ := h6
    unfold Cert.ReferenceIdeal.RefValue.result Cert.ReferenceIdeal.RefValue.zeroPoint
    rw [e0, e1, e2, e3, e4, e5, e6, toFloat_eq, border_eq]
    rfl

theorem claim : Cert.Claim := ⟨Cert.Kernel.Gen.facts, Cert.KernelIdeal.Gen.facts, Cert.ReferenceIdeal.Gen.facts,
  frame_kernel, frame_kernelIdeal, frame_reference, trivial, algebraic⟩

end Cert.Proof

end
